-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sqrt_d" .f32 0x3CB504F3#32 (((Real.sqrt 2048)⁻¹ : ℝ) : EReal)

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scores_below_infinity : Cert.Pre_scores_below_infinity.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S4x4096x2048 : Shape := ⟨3, ![4, 4096, 2048]⟩
abbrev S16x2048 : Shape := ⟨2, ![16, 2048]⟩
abbrev S16 : Shape := ⟨1, ![16]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg3 : FVec F S16 .f32) (main_arg6 : FVec F S16 .f32) (main_arg9 : FVec F S16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_cst_6 : FVec F S_ .f32 := constant S_ .f32 0x7F800000#32
  let main_v19 : FVec F S16 .f32 := broadcastInDim S16 ![] bcast_S_S16 main_cst_6
  let main_v20 : IVec S16 1 := cmpf .olt main_arg3 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v18 main_v21
  let main_cst_8 : FVec F S_ .f32 := constant S_ .f32 0x7F800000#32
  let main_v23 : FVec F S16 .f32 := broadcastInDim S16 ![] bcast_S_S16 main_cst_8
  let main_v24 : IVec S16 1 := cmpf .olt main_arg6 main_v23
  let main_c_9 : IVec S_ 1 := constantI S_ 1 1#1
  let main_v25 : IVec S_ 1 := (fun x v => Host.reduce IntOp.andi x v reducesTo_S16_S_d0 h_S_) main_v24 main_c_9
  let main_v26 : IVec S_ 1 := andi main_v22 main_v25
  let main_cst_10 : FVec F S_ .f32 := constant S_ .f32 0x7F800000#32
  let main_v27 : FVec F S16 .f32 := broadcastInDim S16 ![] bcast_S_S16 main_cst_10
  let main_v28 : IVec S16 1 := cmpf .olt main_arg9 main_v27
  let main_c_11 : IVec S_ 1 := constantI S_ 1 1#1
  let main_v29 : IVec S_ 1 := (fun x v => Host.reduce IntOp.andi x v reducesTo_S16_S_d0 h_S_) main_v28 main_c_11
  let main_v30 : IVec S_ 1 := andi main_v26 main_v29
  main_v30

def fn {F : FTy → Type} [FloatOps F] (main_arg0 : FVec F S4x4096x2048 .f32) (main_arg1 : FVec F S16x2048 .f32) (main_arg2 : FVec F S16x2048 .f32) (main_arg3 : FVec F S16 .f32) (main_arg4 : FVec F S16x2048 .f32) (main_arg5 : FVec F S16x2048 .f32) (main_arg6 : FVec F S16 .f32) (main_arg7 : FVec F S16x2048 .f32) (main_arg8 : FVec F S16x2048 .f32) (main_arg9 : FVec F S16 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16x2048 .f32 := Host.absf main_arg4
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_v14 : FVec F S16x2048 .f32 := Host.absf main_arg7
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg3 main_arg6 main_arg9 main_v13 main_v16
-- ==== Kernel.lean ====
abbrev S4x4096x2048 : Shape := ⟨3, ![4, 4096, 2048]⟩
abbrev S16x2048 : Shape := ⟨2, ![16, 2048]⟩
abbrev S16 : Shape := ⟨1, ![16]⟩
abbrev S16384x2048 : Shape := ⟨2, ![16384, 2048]⟩
abbrev S48x2048 : Shape := ⟨2, ![48, 2048]⟩
abbrev S2048x48 : Shape := ⟨2, ![2048, 48]⟩
abbrev S48 : Shape := ⟨1, ![48]⟩
abbrev S1x48 : Shape := ⟨2, ![1, 48]⟩
abbrev S512x2048 : Shape := ⟨2, ![512, 2048]⟩
abbrev S512x48 : Shape := ⟨2, ![512, 48]⟩
abbrev S512 : Shape := ⟨1, ![512]⟩
abbrev S512x1 : Shape := ⟨2, ![512, 1]⟩
abbrev S48x48 : Shape := ⟨2, ![48, 48]⟩

abbrev nBuf : Space → Nat
  | .hbm => 18
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16x2048, .f32⟩
  | .hbm, ⟨3, _⟩ => ⟨S16, .f32⟩
  | .hbm, ⟨4, _⟩ => ⟨S16x2048, .f32⟩
  | .hbm, ⟨5, _⟩ => ⟨S16x2048, .f32⟩
  | .hbm, ⟨6, _⟩ => ⟨S16, .f32⟩
  | .hbm, ⟨7, _⟩ => ⟨S16x2048, .f32⟩
  | .hbm, ⟨8, _⟩ => ⟨S16x2048, .f32⟩
  | .hbm, ⟨9, _⟩ => ⟨S16, .f32⟩
  | .hbm, ⟨10, _⟩ => ⟨S16384x2048, .f32⟩
  | .hbm, ⟨11, _⟩ => ⟨S48x2048, .f32⟩
  | .hbm, ⟨12, _⟩ => ⟨S2048x48, .f32⟩
  | .hbm, ⟨13, _⟩ => ⟨S48x2048, .f32⟩
  | .hbm, ⟨14, _⟩ => ⟨S48, .f32⟩
  | .hbm, ⟨15, _⟩ => ⟨S1x48, .f32⟩
  | .hbm, ⟨16, _⟩ => ⟨S16384x2048, .f32⟩
  | .hbm, ⟨17, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x48, .f32⟩
  | .local _ .vmem, ⟨3, _⟩ => ⟨S48x2048, .f32⟩
  | .local _ .vmem, ⟨4, _⟩ => ⟨S1x48, .f32⟩
  | .local _ .vmem, ⟨5, _⟩ => ⟨S512x2048, .f32⟩
  | .local _ .vmem, ⟨6, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_sqrt_d" => some (((Real.sqrt 2048)⁻¹ : ℝ) : EReal)
  | _ => none
-- ==== ReferenceIdeal.lean ====
abbrev S4x4096x2048 : Shape := ⟨3, ![4, 4096, 2048]⟩
abbrev S16x2048 : Shape := ⟨2, ![16, 2048]⟩
abbrev S16 : Shape := ⟨1, ![16]⟩
abbrev S_ : Shape := ⟨0, ![]⟩
abbrev S4x4096x16 : Shape := ⟨3, ![4, 4096, 16]⟩
abbrev S1x1x16 : Shape := ⟨3, ![1, 1, 16]⟩
abbrev S4x4096 : Shape := ⟨2, ![4, 4096]⟩
abbrev S4x4096x1 : Shape := ⟨3, ![4, 4096, 1]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16x2048, .f32⟩
  | .hbm, ⟨3, _⟩ => ⟨S16, .f32⟩
  | .hbm, ⟨4, _⟩ => ⟨S16x2048, .f32⟩
  | .hbm, ⟨5, _⟩ => ⟨S16x2048, .f32⟩
  | .hbm, ⟨6, _⟩ => ⟨S16, .f32⟩
  | .hbm, ⟨7, _⟩ => ⟨S16x2048, .f32⟩
  | .hbm, ⟨8, _⟩ => ⟨S16x2048, .f32⟩
  | .hbm, ⟨9, _⟩ => ⟨S16, .f32⟩
  | .hbm, ⟨10, _⟩ => ⟨S_, .f32⟩
  | .hbm, ⟨11, _⟩ => ⟨S4x4096x2048, .f32⟩
  | .hbm, ⟨12, _⟩ => ⟨S4x4096x16, .f32⟩
  | .hbm, ⟨13, _⟩ => ⟨S_, .f32⟩
  | .hbm, ⟨14, _⟩ => ⟨S_, .f32⟩
  | .hbm, ⟨15, _⟩ => ⟨S4x4096x16, .f32⟩
  | .hbm, ⟨16, _⟩ => ⟨S4x4096x16, .f32⟩
  | .hbm, ⟨17, _⟩ => ⟨S1x1x16, .f32⟩
  | .hbm, ⟨18, _⟩ => ⟨S4x4096x16, .f32⟩
  | .hbm, ⟨19, _⟩ => ⟨S4x4096x16, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x16, .f32⟩
  | .hbm, ⟨27, _⟩ => ⟨S4x4096x16, .f32⟩
  | .hbm, ⟨28, _⟩ => ⟨S4x4096x16, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x16, .f32⟩
  | .hbm, ⟨33, _⟩ => ⟨S4x4096x16, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x16, .f32⟩
  | .hbm, ⟨40, _⟩ => ⟨S_, .f32⟩
  | .hbm, ⟨41, _⟩ => ⟨S_, .f32⟩
  | .hbm, ⟨42, _⟩ => ⟨S4x4096x16, .f32⟩
  | .hbm, ⟨43, _⟩ => ⟨S4x4096x16, .f32⟩
  | .hbm, ⟨44, _⟩ => ⟨S1x1x16, .f32⟩
  | .hbm, ⟨45, _⟩ => ⟨S4x4096x16, .f32⟩
  | .hbm, ⟨46, _⟩ => ⟨S4x4096x16, .f32⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x16, .f32⟩
  | .hbm, ⟨54, _⟩ => ⟨S4x4096x16, .f32⟩
  | .hbm, ⟨55, _⟩ => ⟨S4x4096x16, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x16, .f32⟩
  | .hbm, ⟨60, _⟩ => ⟨S4x4096x16, .f32⟩
  | .hbm, ⟨61, _⟩ => ⟨S4x4096x2048, .f32⟩
  | .hbm, ⟨62, _⟩ => ⟨S_, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x16, .f32⟩
  | .hbm, ⟨67, _⟩ => ⟨S_, .f32⟩
  | .hbm, ⟨68, _⟩ => ⟨S_, .f32⟩
  | .hbm, ⟨69, _⟩ => ⟨S4x4096x16, .f32⟩
  | .hbm, ⟨70, _⟩ => ⟨S4x4096x16, .f32⟩
  | .hbm, ⟨71, _⟩ => ⟨S1x1x16, .f32⟩
  | .hbm, ⟨72, _⟩ => ⟨S4x4096x16, .f32⟩
  | .hbm, ⟨73, _⟩ => ⟨S4x4096x16, .f32⟩
  | .hbm, ⟨74, _⟩ => ⟨S_, .f32⟩
  | .hbm, ⟨75, _⟩ => ⟨S4x4096, .f32⟩
  | .hbm, ⟨76, _⟩ => ⟨S_, .f32⟩
  | .hbm, ⟨77, _⟩ => ⟨S4x4096, .f32⟩
  | .hbm, ⟨78, _⟩ => ⟨S4x4096, .f32⟩
  | .hbm, ⟨79, _⟩ => ⟨S4x4096x1, .f32⟩
  | .hbm, ⟨80, _⟩ => ⟨S4x4096x16, .f32⟩
  | .hbm, ⟨81, _⟩ => ⟨S4x4096x16, .f32⟩
  | .hbm, ⟨82, _⟩ => ⟨S4x4096x16, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S4x4096x16, .f32⟩
  | .hbm, ⟨87, _⟩ => ⟨S4x4096x16, .f32⟩
  | .hbm, ⟨88, _⟩ => ⟨S4x4096x2048, .f32⟩
  | .hbm, ⟨89, _⟩ => ⟨S_, .f32⟩
  | .hbm, ⟨90, _⟩ => ⟨S4x4096x2048, .f32⟩
  | .hbm, ⟨91, _⟩ => ⟨S4x4096x2048, .f32⟩
  | .hbm, ⟨92, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Proof.Softmax.lean ====
/- The mathematics: a softmax over extended reals below +∞ does not depend on what is subtracted from the scores, and a
   factor that is a non-negative real number may be taken into a sum of products. -/
module

public import Idealize.ShloMosaic.PureOps.Ideal
public import Idealize.ShloMosaic.Lib.Pointwise

@[expose] public section

noncomputable section

namespace Cert.Softmax

open Idealize.ShloMosaic

/-! ## The constants -/

/-- The word for `2048` denotes 2048. -/
theorem ofBits_2048 : Ideal.ofBits .f32 0x45000000#32 = ((2048 : ℝ) : EReal) := by
  simp [Ideal.ofBits, Ideal.ieee, -EReal.coe_mul]; norm_num

/-- The word for `-∞` denotes the least extended real. -/
theorem ofBits_neg_inf : Ideal.ofBits .f32 0xFF800000#32 = (⊥ : EReal) := by
  simp [Ideal.ofBits, Ideal.ieee]

/-- The word for `+∞` denotes the greatest extended real. -/
theorem ofBits_pos_inf : Ideal.ofBits .f32 0x7F800000#32 = (⊤ : EReal) := by
  simp [Ideal.ofBits, Ideal.ieee]

/-- The weight of a level is a non-negative real number (the one that the word for `1/3` denotes). -/
theorem ofBits_third : ∃ w : ℝ, 0 ≤ w ∧ Ideal.ofBits .f32 0x3EAAAAAB#32 = (w : EReal) := by
  refine ⟨11184811 / 33554432, by norm_num, ?_⟩
  simp [Ideal.ofBits, Ideal.ieee, -EReal.coe_mul]; norm_num

/-! ## Sums and maxima of real numbers -/

/-- The sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum folded from `-∞` of numbers below `+∞` is below `+∞`. -/
theorem fold_max_lt_top {ι : Type} (s : Finset ι) (f : ι → EReal) (hf : ∀ i, f i < ⊤) :
    Finset.fold max (⊥ : EReal) f s < ⊤ :=
  (Finset.fold_max_lt ⊤).2 ⟨bot_lt_top, fun i _ => hf i⟩

/-- Where the maximum folded from `-∞` is `-∞`, every number is. -/
theorem eq_bot_of_fold_max {ι : Type} [Fintype ι] (f : ι → EReal) (h : Finset.fold max (⊥ : EReal) f Finset.univ = ⊥) (i : ι) :
    f i = ⊥ :=
  le_bot_iff.1 (h ▸ (Finset.le_fold_max (f i)).2 (Or.inr ⟨i, Finset.mem_univ i, le_rfl⟩))

/-- A non-negative real factor goes into a sum of extended reals, infinite terms or not. -/
theorem sum_mul_real {ι : Type} (s : Finset ι) (f : ι → EReal) (w : ℝ) (hw : 0 ≤ w) :
    (∑ i ∈ s, f i) * (w : EReal) = ∑ i ∈ s, f i * (w : EReal) := by
  classical
  induction s using Finset.induction_on with
  | empty => simp
  | insert a s ha ih =>
    rw [Finset.sum_insert ha, Finset.sum_insert ha, ← ih]
    exact EReal.right_distrib_of_nonneg_of_ne_top (by exact_mod_cast hw) (EReal.coe_ne_top w) _ _

/-! ## The softmax -/

/-- The exponential of a score as a real number: that of `-∞` is zero. -/
def realExp (x : EReal) : ℝ := if x = ⊥ then 0 else Real.exp x.toReal

/-- The exponential of a score below `+∞`, less a real number. -/
theorem exp_sub_real (x : EReal) (hx : x < ⊤) (M : ℝ) :
    Ideal.exp (x - (M : EReal)) = ((realExp x * Real.exp (-M) : ℝ) : EReal) := by
  induction x with
  | bot => simp [realExp]
  | coe r => rw [← EReal.coe_sub, Ideal.exp_coe, realExp, if_neg (EReal.coe_ne_bot r), EReal.toReal_coe, sub_eq_add_neg, Real.exp_add]
  | top => exact absurd hx (lt_irrefl _)

/-- Normalised exponentials less a real number do not depend on it: where some score is real, they are the softmax weights. -/
theorem div_exp_sub {ι : Type} [Fintype ι] (f : ι → EReal) (hf : ∀ k, f k < ⊤) (hne : ∃ k, f k ≠ ⊥) (M : ℝ) (i : ι) :
    Ideal.div (Ideal.exp (f i - (M : EReal))) (∑ k, Ideal.exp (f k - (M : EReal)))
      = ((realExp (f i) / ∑ k, realExp (f k) : ℝ) : EReal) := by
  have h0 (k : ι) : 0 ≤ realExp (f k) := by unfold realExp; split <;> positivity
  have hpos : 0 < ∑ k, realExp (f k) := by
    obtain ⟨k, hk⟩ := hne
    exact Finset.sum_pos' (fun k _ => h0 k) ⟨k, Finset.mem_univ k, by rw [realExp, if_neg hk]; exact Real.exp_pos _⟩
  have hM := Real.exp_pos (-M)
  simp only [exp_sub_real _ (hf _) M]
  rw [← coe_sum, ← Finset.sum_mul, Ideal.div_coe (mul_pos hpos hM).ne', ← EReal.coe_mul]
  congr 1
  field_simp

/-- Normalised exponentials do not depend on what is subtracted from the scores, so long as it is below `+∞`, and `-∞` only
    where every score is. -/
theorem div_exp_sub_congr {ι : Type} [Fintype ι] (f : ι → EReal) (hf : ∀ k, f k < ⊤) (M N : EReal) (hM : M < ⊤) (hN : N < ⊤)
    (hM' : M = ⊥ → ∀ k, f k = ⊥) (hN' : N = ⊥ → ∀ k, f k = ⊥) (i : ι) :
    Ideal.div (Ideal.exp (f i - M)) (∑ k, Ideal.exp (f k - M)) = Ideal.div (Ideal.exp (f i - N)) (∑ k, Ideal.exp (f k - N)) := by
  by_cases hne : ∃ k, f k ≠ ⊥
  · have hMb : M ≠ ⊥ := fun h => hne.elim fun k hk => hk (hM' h k)
    have hNb : N ≠ ⊥ := fun h => hne.elim fun k hk => hk (hN' h k)
    lift M to ℝ using ⟨hM.ne, hMb⟩
    lift N to ℝ using ⟨hN.ne, hNb⟩
    rw [div_exp_sub f hf hne, div_exp_sub f hf hne]
  · have hne (k : ι) : f k = ⊥ := by_contra fun h => hne ⟨k, h⟩
    simp only [hne, sub_eq_add_neg, EReal.bot_add]

/-! ## One query row -/

/-- The factor that scales the products of queries and keys: `1/√2048`. -/
def scale : ℝ := (Real.sqrt 2048)⁻¹

/-- The score of one slot for one query row: the scaled product of query and key, and the slot's salience. -/
def score {D : ℕ} (q k : Fin D → EReal) (sal : EReal) : EReal := (∑ x, q x * k x) * (scale : EReal) + sal

/-- Every element of an array is a real number. -/
def AllReal {α : Type} (X : α → EReal) : Prop := ∀ i, ∃ r : ℝ, X i = (r : EReal)

/-- Every element of an array is below `+∞`. -/
def BelowTop {α : Type} (X : α → EReal) : Prop := ∀ i, X i < ⊤

/-- A score of real numbers and a salience below `+∞` is below `+∞`. -/
theorem score_lt_top {D : ℕ} {q k : Fin D → EReal} {sal : EReal} (hq : AllReal q) (hk : AllReal k) (hs : sal < ⊤) :
    score q k sal < ⊤ := by
  choose q' hq using hq
  choose k' hk using hk
  obtain rfl : q = fun x => (q' x : EReal) := funext hq
  obtain rfl : k = fun x => (k' x : EReal) := funext hk
  simp only [score, ← EReal.coe_mul, ← coe_sum]
  exact EReal.add_lt_top (EReal.coe_ne_top _) hs.ne

/-- The weight of one level, as the programs' word for `1/3` denotes it. -/
def third : EReal := Ideal.ofBits .f32 0x3EAAAAAB#32

/-- The slot `s` of level `g` among all the 48 slots. -/
def slot (g : Fin 3) (s : Fin 16) : Fin 48 := ⟨g.val * 16 + s.val, by omega⟩

/-- Whether two slots are of one level, as a number. -/
def same (l j : Fin 48) : EReal := if l.val / 16 = j.val / 16 then 1 else 0

/-- The exponential of a score less the maximum over all the slots. -/
def shifted {n : ℕ} (S : Fin n → EReal) (j : Fin n) : EReal := Ideal.exp (S j - Finset.fold max ⊥ S Finset.univ)

/-- What the kernel computes for one query row and one column, from the row's scores of all the slots and the
    column of their values: one exponential per slot, and a sum over each slot's level to divide by. -/
def attend (S V : Fin 48 → EReal) : EReal :=
  ∑ j, Ideal.div (shifted S j) (∑ l, shifted S l * same l j) * third * V j

/-- What the reference computes of one level for one query row and one column. -/
def level (S V : Fin 16 → EReal) : EReal :=
  (∑ s, Ideal.div (shifted S s) (∑ k, shifted S k) * V s) * third

/-- A sum over all the slots whose terms vanish off one level is a sum over that level. -/
theorem sum_same (e : Fin 48 → EReal) (g : Fin 3) (s : Fin 16) :
    ∑ l, e l * same l (slot g s) = ∑ k : Fin 16, e (slot g k) := by
  rw [Fin.sum_univ_tiles 3 16 rfl]
  rw [Finset.sum_eq_single g]
  · refine Finset.sum_congr rfl fun k _ => ?_
    have : same (slot g k) (slot g s) = 1 := by
      unfold same slot; rw [if_pos (by dsimp only; omega)]
    exact (congrArg (e (slot g k) * ·) this).trans (mul_one _)
  · intro h _ hne
    refine Finset.sum_eq_zero fun k _ => ?_
    have hv : h.val ≠ g.val := fun h' => hne (Fin.ext h')
    have : same (slot h k) (slot g s) = 0 := by
      unfold same slot; rw [if_neg (by dsimp only; omega)]
    exact (congrArg (e (slot h k) * ·) this).trans (mul_zero _)
  · exact fun h => absurd (Finset.mem_univ g) h

/-- The kernel's row, when no score is `+∞`: the reference's three levels, added in order. -/
theorem attend_eq (S V : Fin 48 → EReal) (hS : ∀ j, S j < ⊤) :
    attend S V = level (fun s => S (slot 0 s)) (fun s => V (slot 0 s)) + level (fun s => S (slot 1 s)) (fun s => V (slot 1 s))
      + level (fun s => S (slot 2 s)) (fun s => V (slot 2 s)) := by
  have key (g : Fin 3) : ∑ s : Fin 16, Ideal.div (shifted S (slot g s)) (∑ l, shifted S l * same l (slot g s)) * third * V (slot g s)
      = level (fun s => S (slot g s)) (fun s => V (slot g s)) := by
    obtain ⟨w, hw, hw'⟩ := ofBits_third
    rw [level, third, hw', sum_mul_real _ _ w hw]
    refine Finset.sum_congr rfl fun s _ => ?_
    rw [sum_same, mul_right_comm]
    refine congrArg (· * V (slot g s) * (w : EReal)) ?_
    exact div_exp_sub_congr (fun k => S (slot g k)) (fun k => hS _) _ _ (fold_max_lt_top _ _ hS) (fold_max_lt_top _ _ fun k => hS _)
      (fun h k => eq_bot_of_fold_max S h _) (fun h k => eq_bot_of_fold_max (fun k => S (slot g k)) h k) s
  rw [← key 0, ← key 1, ← key 2, attend, Fin.sum_univ_tiles 3 16 rfl, Fin.sum_univ_three]
  rfl

end Cert.Softmax
end
-- ==== Proof.Level.lean ====
/- What the reference computes: its result at an index is the sum of its three levels' reads. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Level

open Idealize.ShloMosaic Idealize.ShloMosaic.TcCoe Idealize.SL.Sem
open Cert.ReferenceIdeal Cert.ReferenceIdeal.Gen Cert.ReferenceIdeal.Value Cert.Softmax

/-- The scores of one level, `query · keysᵀ / √2048 + salience`, as the reference's operations spell them. -/
def scores (Q : FVec Ideal S4x4096x2048 .f32) (K : FVec Ideal S16x2048 .f32) (sal : FVec Ideal S16 .f32) :
    FVec Ideal S4x4096x16 .f32 :=
  addf
    (Host.divf (Host.dotGeneral dot_S4x4096x2048_S16x2048_S4x4096x16_2_1_01_0_n_n none Q K)
      (broadcastInDim S4x4096x16 ![] bcast_S_S4x4096x16 (Host.sqrt (constant S_ .f32 0x45000000#32))))
    (broadcastInDim S4x4096x16 ![0, 1, 2] bcast_S1x1x16_S4x4096x16_0_1_2
      (broadcastInDim S1x1x16 ![2] bcast_S16_S1x1x16_2 sal))

/-- The exponentials of one level's scores less their maximum over the level. -/
def exps (S : FVec Ideal S4x4096x16 .f32) : FVec Ideal S4x4096x16 .f32 :=
  Host.exp (subf S (broadcastInDim S4x4096x16 ![0, 1, 2] bcast_S4x4096x1_S4x4096x16_0_1_2
    (broadcastInDim S4x4096x1 ![0, 1] bcast_S4x4096_S4x4096x1_0_1
      (maximumf (broadcastInDim S4x4096 ![] bcast_S_S4x4096 (constant S_ .f32 0xFF800000#32))
        (Host.reduce FloatOps.maximumf S (constant S_ .f32 0xFF800000#32) reducesTo_S4x4096x16_S4x4096_d2 h_S_)))))

/-- One level's weighted read, from the level's scores and values. -/
def read (S : FVec Ideal S4x4096x16 .f32) (V : FVec Ideal S16x2048 .f32) : FVec Ideal S4x4096x2048 .f32 :=
  mulf (Host.dotGeneral dot_S4x4096x16_S16x2048_S4x4096x2048_2_0_01_1_n_n none
      (Host.divf (exps S) (broadcastInDim S4x4096x16 ![0, 1, 2] bcast_S4x4096x1_S4x4096x16_0_1_2
        (broadcastInDim S4x4096x1 ![0, 1] bcast_S4x4096_S4x4096x1_0_1
          (Host.reduceAdd (exps S) (constant S_ .f32 0x00000000#32) reducesTo_S4x4096x16_S4x4096_d2 h_S_)))) V)
    (broadcastInDim S4x4096x2048 ![] bcast_S_S4x4096x2048 (constant S_ .f32 0x3EAAAAAB#32))

/-- The reference's result is the sum of the three levels' reads, from zero and in order. -/
theorem res_eq (m : (ℓ : Loc nD τ sig) → Buf (Elt Ideal) ℓ) (c : Dev nD) :
    res_out0 m c = addf (addf (addf (broadcastInDim S4x4096x2048 ![] bcast_S_S4x4096x2048 (constant S_ .f32 0x00000000#32))
      (read (scores (m ((c.tc : Thread nD τ).loc main_arg0)) (m ((c.tc : Thread nD τ).loc main_arg1)) (m ((c.tc : Thread nD τ).loc main_arg3))) (m ((c.tc : Thread nD τ).loc main_arg2))))
      (read (scores (m ((c.tc : Thread nD τ).loc main_arg0)) (m ((c.tc : Thread nD τ).loc main_arg4)) (m ((c.tc : Thread nD τ).loc main_arg6))) (m ((c.tc : Thread nD τ).loc main_arg5))))
      (read (scores (m ((c.tc : Thread nD τ).loc main_arg0)) (m ((c.tc : Thread nD τ).loc main_arg7)) (m ((c.tc : Thread nD τ).loc main_arg9))) (m ((c.tc : Thread nD τ).loc main_arg8))) := rfl

/-- The reference's divisor is a square root, so that to divide by it is to multiply by `1/√2048`. -/
theorem div_sqrt (x : EReal) : Ideal.div x (Ideal.sqrt (Ideal.ofBits .f32 0x45000000#32)) = x * (scale : EReal) := by
  have h : Real.sqrt 2048 ≠ 0 := by positivity
  rw [ofBits_2048, Ideal.sqrt_coe, if_neg (by norm_num), Ideal.div_coe h, scale, one_div]

/-- A level's scores at an index. -/
theorem scores_apply (Q : FVec Ideal S4x4096x2048 .f32) (K : FVec Ideal S16x2048 .f32) (sal : FVec Ideal S16 .f32)
    (b : Fin 4) (t : Fin 4096) (s : Fin 16) :
    scores Q K sal (ix3 b t s) = score (fun x => Q (ix3 b t x)) (fun x => K (ix2 s x)) (sal (ix1 s)) := by
  pointwise [scores]
  rw [div_sqrt]; rfl

/-- A level's exponentials at an index. -/
theorem exps_apply (S : FVec Ideal S4x4096x16 .f32) (b : Fin 4) (t : Fin 4096) (s : Fin 16) :
    exps S (ix3 b t s) = shifted (fun k => S (ix3 b t k)) s := by
  pointwise [exps]
  rw [ofBits_neg_inf, max_eq_right bot_le]; rfl

/-- A level's read at an index. -/
theorem read_apply (S : FVec Ideal S4x4096x16 .f32) (V : FVec Ideal S16x2048 .f32)
    (b : Fin 4) (t : Fin 4096) (d : Fin 2048) :
    read S V (ix3 b t d) = level (fun s => S (ix3 b t s)) (fun s => V (ix2 s d)) := by
  pointwise [read]
  simp only [exps_apply]; rfl

/-- A level's read at an index, from the arguments. -/
theorem read_scores_apply (Q : FVec Ideal S4x4096x2048 .f32) (K : FVec Ideal S16x2048 .f32) (sal : FVec Ideal S16 .f32)
    (V : FVec Ideal S16x2048 .f32) (b : Fin 4) (t : Fin 4096) (d : Fin 2048) :
    read (scores Q K sal) V (ix3 b t d)
      = level (fun s => score (fun x => Q (ix3 b t x)) (fun x => K (ix2 s x)) (sal (ix1 s))) (fun s => V (ix2 s d)) := by
  rw [read_apply]; simp only [scores_apply]

/-- The sum of three arrays, from zero and in order, at an index. -/
theorem sum_apply (A B C : FVec Ideal S4x4096x2048 .f32) (b : Fin 4) (t : Fin 4096) (d : Fin 2048) :
    addf (addf (addf (broadcastInDim S4x4096x2048 ![] bcast_S_S4x4096x2048 (constant S_ .f32 0x00000000#32)) A) B) C (ix3 b t d)
      = A (ix3 b t d) + B (ix3 b t d) + C (ix3 b t d) := by
  pointwise []

end Cert.ReferenceIdeal.Level
end
-- ==== Proof.Block.lean ====
/- What one block of the kernel computes, at an index. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.Softmax

/-- The kernel's exponentials at an index: row `r`'s scores, less their maximum over all 48 slots. -/
theorem exps_apply (q : FVec Ideal S512x2048 .f32) (kt : FVec Ideal S2048x48 .f32) (sal : FVec Ideal S1x48 .f32)
    (r : Fin 512) (j : Fin 48) :
    k0_pay2 (F := Ideal) q kt sal (ix2 r j)
      = shifted (fun j => score (fun x => q (ix2 r x)) (fun x => kt (ix2 x j)) (sal (ix2 0 j))) j := by
  pointwise [k0_pay2]
  rw [ofBits_neg_inf]; rfl

/-- The word the kernel computes for the level of a slot: the slot's number over 16, rounded down. -/
def levelWord (x : Fin 48) : BitVec 32 :=
  Scalar.select
    (IntOp.andi
      (IntOp.cmpi .ne
        (IntOp.subi (BitVec.setWidth 32 (IntOp.cmpi .sgt (BitVec.ofNat 32 x.val) 0#32))
          (BitVec.setWidth 32 (IntOp.cmpi .slt (BitVec.ofNat 32 x.val) 0#32)))
        (Scalar.subi (Scalar.extui (Scalar.cmpi .sgt 16#32 0#32)) (Scalar.extui (Scalar.cmpi .slt 16#32 0#32))))
      (IntOp.cmpi .ne (IntOp.remsi .vector (BitVec.ofNat 32 x.val) 16#32) 0#32))
    (IntOp.subi (IntOp.divsi .vector (BitVec.ofNat 32 x.val) 16#32) 1#32)
    (IntOp.divsi .vector (BitVec.ofNat 32 x.val) 16#32)

/-- Two slots' level words are compared as their levels are. -/
theorem levelWord_cmp : ∀ l j : Fin 48, BitVec.setWidth 32 (IntOp.cmpi .eq (levelWord l) (levelWord j))
    = if l.val / 16 = j.val / 16 then 1#32 else 0#32 := by
  decide +kernel

/-- The kernel's comparison of two slots' levels, as a number. -/
theorem sitofp_cmp (l j : Fin 48) :
    (FloatOps.sitofp .f32 (BitVec.setWidth 32 (IntOp.cmpi .eq (levelWord l) (levelWord j))) : Ideal .f32) = same l j := by
  rw [levelWord_cmp, same]
  split
  · show (((1#32 : BitVec 32).toInt : ℝ) : EReal) = 1
    simp
  · show (((0#32 : BitVec 32).toInt : ℝ) : EReal) = 0
    simp

/-- The kernel's store at an index, from its exponentials and the values. -/
theorem store_apply (e : FVec Ideal S512x48 .f32) (v : FVec Ideal S48x2048 .f32) (r : Fin 512) (d : Fin 2048) :
    k0_pay1 (F := Ideal) e k0_pay3 (iota .tc S48x48 32 [1] iota_S48x48_d1_w32) 16#32 v (ix2 r d)
      = ∑ j, Ideal.div (e (ix2 r j)) (∑ l, e (ix2 r l) * same l j) * third * v (ix2 j d) := by
  pointwise [k0_pay1, k0_pay3]
  refine Finset.sum_congr rfl fun j _ => ?_
  refine congrArg (Ideal.div (e (ix2 r j)) · * third * v (ix2 j d)) ?_
  exact Finset.sum_congr rfl fun l _ => congrArg (e (ix2 r l) * ·) (sitofp_cmp l j)

/-- The kernel's store at an index, from its block of queries and the staged keys, saliences and values. -/
theorem block_apply (q : FVec Ideal S512x2048 .f32) (kt : FVec Ideal S2048x48 .f32) (v : FVec Ideal S48x2048 .f32)
    (sal : FVec Ideal S1x48 .f32) (r : Fin 512) (d : Fin 2048) :
    k0_pay1 (F := Ideal) (k0_pay2 q kt sal) k0_pay3 (iota .tc S48x48 32 [1] iota_S48x48_d1_w32) 16#32 v (ix2 r d)
      = attend (fun j => score (fun x => q (ix2 r x)) (fun x => kt (ix2 x j)) (sal (ix2 0 j))) (fun j => v (ix2 j d)) := by
  rw [store_apply]; simp only [exps_apply]; rfl

end Cert.KernelIdeal.Block
end
-- ==== Proof.Array.lean ====
/- What the kernel's result array holds after the run, from the arrays the region starts from. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.Softmax

variable (m : (ℓ : Loc nD τ sig) → Buf (Elt Ideal) ℓ)

/-- The windows' blocks at each grid point: row block `t` of the queries and of the result; all of the rest. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The rows of the result: each from its row of queries, with the staged keys, saliences and values. -/
def rows (q : FVec Ideal S16384x2048 .f32) (kt : FVec Ideal S2048x48 .f32) (v : FVec Ideal S48x2048 .f32)
    (sal : FVec Ideal S1x48 .f32) : FVec Ideal S16384x2048 .f32 := fun i =>
  attend (fun j => score (fun x => q (ix2 (i 0) x)) (fun x => kt (ix2 x j)) (sal (ix2 0 j))) (fun j => v (ix2 j (i 1)))

/-- What the body stores at an index of its block is the result's row at that index's place in the array. -/
theorem point (c : Dev nD) (t : Fin cfg0.N) (y : S512x2048.Idx) :
    k0_pay1 (F := Ideal) (k0_pay2 (iblk m c 0 t) (iblk m c 1 t) (iblk m c 3 t)) k0_pay3
        (iota .tc S48x48 32 [1] iota_S48x48_d1_w32) 16#32 (iblk m c 2 t) y
      = rows (V m c main_call0_v0) (V m c main_call0_v2) (V m c main_call0_v3) (V m c main_call0_v5)
          (((cfg0.win 4).blk t).view.emb y) := by
  idx_vars y
  refine (Block.block_apply _ _ _ _ _ _).trans ?_
  simp only [rows]
  blk_point [iblk, V, idx t]

/-- The result array after the run. -/
theorem final (c : Dev nD) : (dats m 0 c).arrAt 4 (cfgs 0).N
    = rows (V m c main_call0_v0) (V m c main_call0_v2) (V m c main_call0_v3) (V m c main_call0_v5) := by
  refine (dats m 0 c).arrAt_eq_of_covers 4 _ (by decide +kernel) fun t _ y => ?_
  blk_simp
  rw [after0_4]; frame_out
  exact point m c t y

end Cert.KernelIdeal.Array
end
-- ==== Proof.Result.lean ====
/- What the kernel's result holds after the run, from the arguments: the arrays the region starts from are the arguments
   reshaped, concatenated and transposed, and the result is the region's array reshaped. -/
module

public import proofs.«01_k».proof.Proof.Array
public import Idealize.ShloMosaic.Lib.Claim
public import Idealize.ShloMosaic.Lib.StableHlo.ReadAt

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Softmax

variable (m : (ℓ : Loc nD τ sig) → Buf (Elt Ideal) ℓ)

/-- The row of the flattened batch at which the row `t` of batch entry `b` sits. -/
def row (b : Fin 4) (t : Fin 4096) : Fin 16384 := ⟨b.val * 4096 + t.val, by omega⟩

/-- The staged queries are the query argument, its first two axes flattened. -/
theorem query_read (c : Dev nD) (b : Fin 4) (t : Fin 4096) (x : Fin 2048) :
    V m c main_call0_v0 (ix2 (row b t) x) = m ((c : Thread nD τ).loc main_arg0) (ix3 b t x) := by
  unfold V V0
  simp only [List.flatten_cons, List.flatten_nil, List.append_nil]
  after_reads_at
  blk_ext [row]

/-- The staged keys at a slot of the first level are that level's keys. -/
theorem keys_read0 (c : Dev nD) (x : Fin 2048) (s : Fin 16) :
    V m c main_call0_v2 (ix2 x (slot 0 s)) = m ((c : Thread nD τ).loc main_arg1) (ix2 s x) := by
  unfold V V0
  simp only [List.flatten_cons, List.flatten_nil, List.append_nil]
  after_reads_at
  rw [dif_pos (show (slot 0 s).val < 16 by simp [slot])]
  after_reads_simp
  blk_ext [slot]

/-- The staged values at a slot of the first level are that level's values. -/
theorem values_read0 (c : Dev nD) (s : Fin 16) (d : Fin 2048) :
    V m c main_call0_v3 (ix2 (slot 0 s) d) = m ((c : Thread nD τ).loc main_arg2) (ix2 s d) := by
  unfold V V0
  simp only [List.flatten_cons, List.flatten_nil, List.append_nil]
  after_reads_at
  rw [dif_pos (show (slot 0 s).val < 16 by simp [slot])]
  after_reads_simp
  blk_ext [slot]

/-- The staged saliences at a slot of the first level are that level's saliences. -/
theorem salience_read0 (c : Dev nD) (s : Fin 16) :
    V m c main_call0_v5 (ix2 0 (slot 0 s)) = m ((c : Thread nD τ).loc main_arg3) (ix1 s) := by
  unfold V V0
  simp only [List.flatten_cons, List.flatten_nil, List.append_nil]
  after_reads_at
  rw [dif_pos (show (slot 0 s).val < 16 by simp [slot])]
  after_reads_simp
  blk_ext [slot]

/-- The staged keys at a slot of the second level are that level's keys. -/
theorem keys_read1 (c : Dev nD) (x : Fin 2048) (s : Fin 16) :
    V m c main_call0_v2 (ix2 x (slot 1 s)) = m ((c : Thread nD τ).loc main_arg4) (ix2 s x) := by
  unfold V V0
  simp only [List.flatten_cons, List.flatten_nil, List.append_nil]
  after_reads_at
  rw [dif_neg (show ¬ (slot 1 s).val < 16 by simp [slot]), dif_pos (show (slot 1 s).val - 16 < 16 by simp [slot])]
  after_reads_simp
  blk_ext [slot]

/-- The staged values at a slot of the second level are that level's values. -/
theorem values_read1 (c : Dev nD) (s : Fin 16) (d : Fin 2048) :
    V m c main_call0_v3 (ix2 (slot 1 s) d) = m ((c : Thread nD τ).loc main_arg5) (ix2 s d) := by
  unfold V V0
  simp only [List.flatten_cons, List.flatten_nil, List.append_nil]
  after_reads_at
  rw [dif_neg (show ¬ (slot 1 s).val < 16 by simp [slot]), dif_pos (show (slot 1 s).val - 16 < 16 by simp [slot])]
  after_reads_simp
  blk_ext [slot]

/-- The staged saliences at a slot of the second level are that level's saliences. -/
theorem salience_read1 (c : Dev nD) (s : Fin 16) :
    V m c main_call0_v5 (ix2 0 (slot 1 s)) = m ((c : Thread nD τ).loc main_arg6) (ix1 s) := by
  unfold V V0
  simp only [List.flatten_cons, List.flatten_nil, List.append_nil]
  after_reads_at
  rw [dif_neg (show ¬ (slot 1 s).val < 16 by simp [slot]), dif_pos (show (slot 1 s).val - 16 < 16 by simp [slot])]
  after_reads_simp
  blk_ext [slot]

/-- The staged keys at a slot of the third level are that level's keys. -/
theorem keys_read2 (c : Dev nD) (x : Fin 2048) (s : Fin 16) :
    V m c main_call0_v2 (ix2 x (slot 2 s)) = m ((c : Thread nD τ).loc main_arg7) (ix2 s x) := by
  unfold V V0
  simp only [List.flatten_cons, List.flatten_nil, List.append_nil]
  after_reads_at
  rw [dif_neg (show ¬ (slot 2 s).val < 16 by simp [slot]; omega), dif_neg (show ¬ (slot 2 s).val - 16 < 16 by simp [slot]; omega)]
  after_reads_simp
  blk_ext [slot]

/-- The staged values at a slot of the third level are that level's values. -/
theorem values_read2 (c : Dev nD) (s : Fin 16) (d : Fin 2048) :
    V m c main_call0_v3 (ix2 (slot 2 s) d) = m ((c : Thread nD τ).loc main_arg8) (ix2 s d) := by
  unfold V V0
  simp only [List.flatten_cons, List.flatten_nil, List.append_nil]
  after_reads_at
  rw [dif_neg (show ¬ (slot 2 s).val < 16 by simp [slot]; omega), dif_neg (show ¬ (slot 2 s).val - 16 < 16 by simp [slot]; omega)]
  after_reads_simp
  blk_ext [slot]

/-- The staged saliences at a slot of the third level are that level's saliences. -/
theorem salience_read2 (c : Dev nD) (s : Fin 16) :
    V m c main_call0_v5 (ix2 0 (slot 2 s)) = m ((c : Thread nD τ).loc main_arg9) (ix1 s) := by
  unfold V V0
  simp only [List.flatten_cons, List.flatten_nil, List.append_nil]
  after_reads_at
  rw [dif_neg (show ¬ (slot 2 s).val < 16 by simp [slot]; omega), dif_neg (show ¬ (slot 2 s).val - 16 < 16 by simp [slot]; omega)]
  after_reads_simp
  blk_ext [slot]

/-- The kernel's result at an index, after the operation that follows the region: the region's array at the flattened row. -/
theorem tail_read (c : Dev nD) (b : Fin 4) (t : Fin 4096) (d : Fin 2048) :
    Pipeline.afterTail₀ cfgs (dats m) 0 (V0 m) [hostOps1] c main_v0 (ix3 b t d)
      = ((dats m 0 c).arrAt 4 (cfgs 0).N) (ix2 (row b t) d) := by
  unfold Pipeline.afterTail₀
  simp only [List.flatten_cons, List.flatten_nil, List.append_nil]
  after_reads_at
  exact congrFun (Pipeline.withArrays_arr spec0 (by decide) c (V0 m c) (fun w => (dats m 0 c).arrAt w (cfgs 0).N) 4) _

/-- Every slot is the slot of some level. -/
theorem exists_slot (j : Fin 48) : ∃ (g : Fin 3) (s : Fin 16), j = slot g s :=
  ⟨⟨j.val / 16, by omega⟩, ⟨j.val % 16, by omega⟩, Fin.ext (by simp only [slot]; omega)⟩

/-- The kernel's result at an index, from the arguments, when queries and keys are real and saliences
    below `+∞`: the sum of the levels. -/
theorem result_apply (c : Dev nD)
    (h0 : AllReal (m ((c : Thread nD τ).loc main_arg0) : FVec Ideal S4x4096x2048 .f32))
    (h1 : AllReal (m ((c : Thread nD τ).loc main_arg1) : FVec Ideal S16x2048 .f32))
    (h3 : BelowTop (m ((c : Thread nD τ).loc main_arg3) : FVec Ideal S16 .f32))
    (h4 : AllReal (m ((c : Thread nD τ).loc main_arg4) : FVec Ideal S16x2048 .f32))
    (h6 : BelowTop (m ((c : Thread nD τ).loc main_arg6) : FVec Ideal S16 .f32))
    (h7 : AllReal (m ((c : Thread nD τ).loc main_arg7) : FVec Ideal S16x2048 .f32))
    (h9 : BelowTop (m ((c : Thread nD τ).loc main_arg9) : FVec Ideal S16 .f32))
    (b : Fin 4) (t : Fin 4096) (d : Fin 2048) :
    Pipeline.afterTail₀ cfgs (dats m) 0 (V0 m) [hostOps1] c main_v0 (ix3 b t d)
      = level (fun s => score (fun x => m ((c : Thread nD τ).loc main_arg0) (ix3 b t x))
            (fun x => m ((c : Thread nD τ).loc main_arg1) (ix2 s x)) (m ((c : Thread nD τ).loc main_arg3) (ix1 s)))
          (fun s => m ((c : Thread nD τ).loc main_arg2) (ix2 s d))
        + level (fun s => score (fun x => m ((c : Thread nD τ).loc main_arg0) (ix3 b t x))
            (fun x => m ((c : Thread nD τ).loc main_arg4) (ix2 s x)) (m ((c : Thread nD τ).loc main_arg6) (ix1 s)))
          (fun s => m ((c : Thread nD τ).loc main_arg5) (ix2 s d))
        + level (fun s => score (fun x => m ((c : Thread nD τ).loc main_arg0) (ix3 b t x))
            (fun x => m ((c : Thread nD τ).loc main_arg7) (ix2 s x)) (m ((c : Thread nD τ).loc main_arg9) (ix1 s)))
          (fun s => m ((c : Thread nD τ).loc main_arg8) (ix2 s d)) := by
  rw [tail_read, Array.final]
  refine (attend_eq _ _ fun j => ?_).trans ?_
  · obtain ⟨g, s, rfl⟩ := exists_slot j
    refine score_lt_top (fun x => ?_) (fun x => ?_) ?_
    · exact (query_read m c b t x).symm ▸ h0 _
    · fin_cases g
      · exact (keys_read0 m c x s).symm ▸ h1 _
      · exact (keys_read1 m c x s).symm ▸ h4 _
      · exact (keys_read2 m c x s).symm ▸ h7 _
    · fin_cases g
      · exact (salience_read0 m c s).symm ▸ h3 _
      · exact (salience_read1 m c s).symm ▸ h6 _
      · exact (salience_read2 m c s).symm ▸ h9 _
  · exact congrArg₂ (· + ·) (congrArg₂ (· + ·)
      (congrArg₂ level (funext fun s => congr (congrArg₂ score (funext fun x => query_read m c b t x)
        (funext fun x => keys_read0 m c x s)) (salience_read0 m c s)) (funext fun s => values_read0 m c s d))
      (congrArg₂ level (funext fun s => congr (congrArg₂ score (funext fun x => query_read m c b t x)
        (funext fun x => keys_read1 m c x s)) (salience_read1 m c s)) (funext fun s => values_read1 m c s d)))
      (congrArg₂ level (funext fun s => congr (congrArg₂ score (funext fun x => query_read m c b t x)
        (funext fun x => keys_read2 m c x s)) (salience_read2 m c s)) (funext fun s => values_read2 m c s d))

end Cert.KernelIdeal.Result
end
-- ==== Proof.Finite.lean ====
/- What the precondition says: every query and key is a real number, and every salience is below +∞. -/
module

public import proofs.«01_k».proof.Defs
public import proofs.«01_k».proof.Proof.Gen.Pre_scores_below_infinity
public import proofs.«01_k».proof.Proof.Softmax
public import Idealize.ShloMosaic.Lib.ReduceAll
public import Idealize.ShloMosaic.Lib.Pointwise

@[expose] public section

set_option maxRecDepth 16384

noncomputable section

namespace Cert.Finite

open Idealize.ShloMosaic Idealize.ShloMosaic.TcCoe Idealize.SL.Sem
open Cert.Pre_scores_below_infinity Cert.Softmax

/-- An absolute value below `+∞` is of a real number. -/
theorem real_of_abs_lt (x : EReal) (h : Ideal.cmp .olt (max x (-x)) (Ideal.ofBits .f32 0x7F800000#32) = 1#1) :
    ∃ r : ℝ, x = (r : EReal) := by
  rw [ofBits_pos_inf] at h
  induction x with
  | bot => simp [Ideal.cmp] at h
  | coe r => exact ⟨r, rfl⟩
  | top => simp [Ideal.cmp] at h

/-- One of the precondition's conjuncts: every absolute value of an array is below `+∞`, so that every element is real. -/
theorem allReal_of_reduce {s : Shape} {axes : List (Fin s.rank)} (a : FVec Ideal s .f32)
    (hb : S_.BroadcastsInDim s (![] : Fin 0 → Fin s.rank)) (init : IVec S_ 1) (h : s.ReducesTo axes S_) (hu : 0 < S_.numel)
    (e : Host.reduce IntOp.andi (cmpf .olt (Host.absf a) (broadcastInDim s ![] hb (constant S_ .f32 0x7F800000#32)))
      init h hu ix0 = 1#1) : AllReal a := fun i => by
  haveI : Subsingleton S_.Idx := ⟨fun _ _ => funext fun k => k.elim0⟩
  exact real_of_abs_lt (a i) (Host.reduce_andi_all _ init h hu ix0 e i)

/-- Another: every element of an array is below `+∞`. -/
theorem lt_top_of_reduce {s : Shape} {axes : List (Fin s.rank)} (a : FVec Ideal s .f32)
    (hb : S_.BroadcastsInDim s (![] : Fin 0 → Fin s.rank)) (init : IVec S_ 1) (h : s.ReducesTo axes S_) (hu : 0 < S_.numel)
    (e : Host.reduce IntOp.andi (cmpf .olt a (broadcastInDim s ![] hb (constant S_ .f32 0x7F800000#32)))
      init h hu ix0 = 1#1) (i : s.Idx) : a i < ⊤ := by
  haveI : Subsingleton S_.Idx := ⟨fun _ _ => funext fun k => k.elim0⟩
  have e' : Ideal.cmp .olt (a i) (Ideal.ofBits .f32 0x7F800000#32) = 1#1 := Host.reduce_andi_all _ init h hu ix0 e i
  rw [ofBits_pos_inf] at e'
  by_contra hn
  simp [Ideal.cmp, hn] at e'

variable [Facts]

/-- The precondition, read back: queries and keys are real numbers, and saliences are below `+∞`. -/
theorem of_fn (a0 : FVec Ideal S4x4096x2048 .f32) (a1 a2 : FVec Ideal S16x2048 .f32) (a3 : FVec Ideal S16 .f32)
    (a4 a5 : FVec Ideal S16x2048 .f32) (a6 : FVec Ideal S16 .f32) (a7 a8 : FVec Ideal S16x2048 .f32) (a9 : FVec Ideal S16 .f32)
    (h : fn (F := Ideal) a0 a1 a2 a3 a4 a5 a6 a7 a8 a9 = fun _ => 1#1) :
    AllReal a0 ∧ AllReal a1 ∧ BelowTop a3 ∧ AllReal a4 ∧ BelowTop a6 ∧ AllReal a7 ∧ BelowTop a9 := by
  have h0 := congrFun h ix0
  dsimp only [fn, fn_part1] at h0
  simp only [andi] at h0
  obtain ⟨h0, e9⟩ := IntOp.andi_eq_one.1 h0
  obtain ⟨h0, e6⟩ := IntOp.andi_eq_one.1 h0
  obtain ⟨h0, e3⟩ := IntOp.andi_eq_one.1 h0
  obtain ⟨h0, e7⟩ := IntOp.andi_eq_one.1 h0
  obtain ⟨h0, e4⟩ := IntOp.andi_eq_one.1 h0
  obtain ⟨e0, e1⟩ := IntOp.andi_eq_one.1 h0
  exact ⟨allReal_of_reduce a0 _ _ _ _ e0, allReal_of_reduce a1 _ _ _ _ e1, lt_top_of_reduce a3 _ _ _ _ e3,
    allReal_of_reduce a4 _ _ _ _ e4, lt_top_of_reduce a6 _ _ _ _ e6, allReal_of_reduce a7 _ _ _ _ e7,
    lt_top_of_reduce a9 _ _ _ _ e9⟩

end Cert.Finite
end
-- ==== Proof.Equal.lean ====
/- The claims that are not generated: the reference leaves its arguments and its counters alone, the kernel's idealization
   names the constant `1/√2048`, and on real queries and keys and saliences below +∞ kernel and reference compute one result. -/
module

public import proofs.«01_k».proof.Defs
public import proofs.«01_k».proof.Proof.Level
public import proofs.«01_k».proof.Proof.Result
public import proofs.«01_k».proof.Proof.Finite
public import proofs.«01_k».proof.Proof.Gen.Kernel
public import Idealize.ShloMosaic.Lib.Quiescent

@[expose] public section

set_option maxRecDepth 16384

noncomputable section

open Idealize.ShloMosaic Idealize.ShloMosaic.TcCoe Idealize.SL.Sem

namespace Cert.KernelIdeal.Result

open Cert.KernelIdeal Cert.KernelIdeal.Gen

/-- The kernel's run: its result is the region's array after the operation that follows, its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h.1 c).2 main_v0 (Pipeline.mem_restRefs_of main_v0 (by decide) (by decide)), h.2 c⟩)
    (θ_run_and (run_main m ρ) (unchanged m ρ))

end Cert.KernelIdeal.Result

namespace Cert.ReferenceIdeal.Level

open Cert.ReferenceIdeal Cert.ReferenceIdeal.Gen Cert.ReferenceIdeal.Value Cert.Softmax

/-- The reference's result at an index, from its arguments: the sum of the levels. -/
theorem result_apply (m : (ℓ : Loc nD τ sig) → Buf (Elt Ideal) ℓ) (c : Dev nD) (b : Fin 4) (t : Fin 4096) (d : Fin 2048) :
    res_out0 m c (ix3 b t d)
      = level (fun s => score (fun x => m ((c.tc : Thread nD τ).loc main_arg0) (ix3 b t x))
            (fun x => m ((c.tc : Thread nD τ).loc main_arg1) (ix2 s x)) (m ((c.tc : Thread nD τ).loc main_arg3) (ix1 s)))
          (fun s => m ((c.tc : Thread nD τ).loc main_arg2) (ix2 s d))
        + level (fun s => score (fun x => m ((c.tc : Thread nD τ).loc main_arg0) (ix3 b t x))
            (fun x => m ((c.tc : Thread nD τ).loc main_arg4) (ix2 s x)) (m ((c.tc : Thread nD τ).loc main_arg6) (ix1 s)))
          (fun s => m ((c.tc : Thread nD τ).loc main_arg5) (ix2 s d))
        + level (fun s => score (fun x => m ((c.tc : Thread nD τ).loc main_arg0) (ix3 b t x))
            (fun x => m ((c.tc : Thread nD τ).loc main_arg7) (ix2 s x)) (m ((c.tc : Thread nD τ).loc main_arg9) (ix1 s)))
          (fun s => m ((c.tc : Thread nD τ).loc main_arg8) (ix2 s d)) := by
  rw [res_eq]
  refine (sum_apply _ _ _ b t d).trans ?_
  exact congrArg₂ (· + ·) (congrArg₂ (· + ·) (read_scores_apply _ _ _ _ b t d) (read_scores_apply _ _ _ _ b t d))
    (read_scores_apply _ _ _ _ b t d)

end Cert.ReferenceIdeal.Level

namespace Cert.Proof.Equal

/-- The reference's frame: its arguments are unchanged, and it declares no counter. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one constant that the idealization names is the value it is named. -/
theorem preserves : Cert.preserves_Kernel_KernelIdeal :=
  IdealRules.named_const.statement Cert.KernelIdeal.κ "inv_sqrt_d" .f32 0x3CB504F3#32 (((Real.sqrt 2048)⁻¹ : ℝ) : EReal) rfl

/-- On arguments that agree, with real queries and keys and saliences below `+∞`, kernel and reference end with one result. -/
theorem algebraic : Cert.algebraic_KernelIdeal_ReferenceIdeal_pre_scores_below_infinity := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3, h4, h6, h7, h9⟩ := Cert.Finite.of_fn _ _ _ _ _ _ _ _ _ _ (hpre c)
  obtain ⟨a0, a1, a2, a3, a4, a5, a6, a7, a8, a9⟩ := hagree c
  funext i
  idx_vars i
  refine (Cert.ReferenceIdeal.Level.result_apply m' c _ _ _).trans ?_
  refine Eq.trans ?_ (Cert.KernelIdeal.Result.result_apply m c h0 h1 h3 h4 h6 h7 h9 _ _ _).symm
  rw [a0, a1, a2, a3, a4, a5, a6, a7, a8, a9]

end Cert.Proof.Equal
end
-- ==== Proof.lean ====
/- The proof of the claim: the frames of the kernel, of its idealization and of the reference; that the idealization names
   the constant it says; and that kernel and reference compute one result (Proof/Equal.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_scores_below_infinity
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_scores_below_infinity.Gen.facts,
    fun m ρ _ => Cert.Kernel.Gen.frame m ρ,
    fun m ρ _ => Cert.KernelIdeal.Gen.frame m ρ,
    fun m ρ _ => Cert.KernelIdeal.Gen.frame m ρ,
    fun m ρ _ => Equal.reference_frame m ρ trivial,
    fun m ρ _ => Equal.reference_frame m ρ trivial,
    Equal.preserves, Equal.algebraic⟩

end Cert.Proof

end
